-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x2304 : Shape := ⟨3, ![6, 1536, 2304]⟩
abbrev S6x12x4608 : Shape := ⟨3, ![6, 12, 4608]⟩
abbrev S6x4608x768 : Shape := ⟨3, ![6, 4608, 768]⟩
abbrev S1x1536x1152 : Shape := ⟨3, ![1, 1536, 1152]⟩
abbrev S1x12x2304 : Shape := ⟨3, ![1, 12, 2304]⟩
abbrev S1x2304x768 : Shape := ⟨3, ![1, 2304, 768]⟩
abbrev S1x1536x128 : Shape := ⟨3, ![1, 1536, 128]⟩
abbrev S1536x128 : Shape := ⟨2, ![1536, 128]⟩
abbrev S384x128 : Shape := ⟨2, ![384, 128]⟩
abbrev S768x128 : Shape := ⟨2, ![768, 128]⟩
abbrev S128x768 : Shape := ⟨2, ![128, 768]⟩
abbrev S64x768 : Shape := ⟨2, ![64, 768]⟩
abbrev S256x768 : Shape := ⟨2, ![256, 768]⟩
abbrev S1x256x768 : Shape := ⟨3, ![1, 256, 768]⟩
abbrev S12x2304 : Shape := ⟨2, ![12, 2304]⟩
abbrev S6x4608x12 : Shape := ⟨3, ![6, 4608, 12]⟩

abbrev nBuf : Space → Nat
  | .hbm => 5
  | .vmem => 8
  | .smem => 0
  | _ => 0

abbrev bufTy : (tb : Table) → Fin (tcTables nBuf tb) → BufTy
  | .hbm, ⟨0, _⟩ => ⟨S6x1536x2304, .i8⟩
  | .hbm, ⟨1, _⟩ => ⟨S6x12x4608, .f32⟩
  | .hbm, ⟨2, _⟩ => ⟨S6x4608x768, .i8⟩
  | .hbm, ⟨3, _⟩ => ⟨S6x12x4608, .f32⟩
  | .hbm, ⟨4, _⟩ => ⟨S6x4608x12, .f32⟩
  | .local _ .vmem, ⟨0, _⟩ => ⟨S1x1536x1152, .i8⟩
  | .local _ .vmem, ⟨1, _⟩ => ⟨S1x1536x1152, .i8⟩
  | .local _ .vmem, ⟨2, _⟩ => ⟨S1x12x2304, .f32⟩
  | .local _ .vmem, ⟨3, _⟩ => ⟨S1x12x2304, .f32⟩
  | .local _ .vmem, ⟨4, _⟩ => ⟨S1x2304x768, .i8⟩
  | .local _ .vmem, ⟨5, _⟩ => ⟨S1x2304x768, .i8⟩
  | .local _ .vmem, ⟨6, _⟩ => ⟨S1x12x2304, .f32⟩
  | .local _ .vmem, ⟨7, _⟩ => ⟨S1x12x2304, .f32⟩
  | _, _ => ⟨S6x1536x2304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1536x1152 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x12x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6x1536x2304 : Shape := ⟨3, ![6, 1536, 2304]⟩
abbrev S6x12x4608 : Shape := ⟨3, ![6, 12, 4608]⟩
abbrev S_ : Shape := ⟨0, ![]⟩
abbrev S6x768x2x2304 : Shape := ⟨4, ![6, 768, 2, 2304]⟩
abbrev S6x768x1x2304 : Shape := ⟨4, ![6, 768, 1, 2304]⟩
abbrev S6x768x2304 : Shape := ⟨3, ![6, 768, 2304]⟩
abbrev S6x768x2304x1 : Shape := ⟨4, ![6, 768, 2304, 1]⟩
abbrev S6x768x2304x2 : Shape := ⟨4, ![6, 768, 2304, 2]⟩
abbrev S6x2304x2x768 : Shape := ⟨4, ![6, 2304, 2, 768]⟩
abbrev S6x4608x768 : Shape := ⟨3, ![6, 4608, 768]⟩
abbrev S6x4608x12 : Shape := ⟨3, ![6, 4608, 12]⟩

abbrev nBuf : Space → Nat
  | .hbm => 34
  | .vmem => 0
  | .smem => 0
  | _ => 0

abbrev bufTy : (tb : Table) → Fin (tcTables nBuf tb) → BufTy
  | .hbm, ⟨0, _⟩ => ⟨S6x1536x2304, .i8⟩
  | .hbm, ⟨1, _⟩ => ⟨S6x12x4608, .f32⟩
  | .hbm, ⟨2, _⟩ => ⟨S6x1536x2304, .i32⟩
  | .hbm, ⟨3, _⟩ => ⟨S_, .i32⟩
  | .hbm, ⟨4, _⟩ => ⟨S6x1536x2304, .i32⟩
  | .hbm, ⟨5, _⟩ => ⟨S6x1536x2304, .i32⟩
  | .hbm, ⟨6, _⟩ => ⟨S_, .i32⟩
  | .hbm, ⟨7, _⟩ => ⟨S6x1536x2304, .i32⟩
  | .hbm, ⟨8, _⟩ => ⟨S6x1536x2304, .i32⟩
  | .hbm, ⟨9, _⟩ => ⟨S6x768x2x2304, .i32⟩
  | .hbm, ⟨10, _⟩ => ⟨S6x768x2x2304, .i32⟩
  | .hbm, ⟨11, _⟩ => ⟨S6x768x1x2304, .i32⟩
  | .hbm, ⟨12, _⟩ => ⟨S6x768x2304, .i32⟩
  | .hbm, ⟨13, _⟩ => ⟨S6x768x1x2304, .i32⟩
  | .hbm, ⟨14, _⟩ => ⟨S6x768x2304, .i32⟩
  | .hbm, ⟨15, _⟩ => ⟨S_, .i32⟩
  | .hbm, ⟨16, _⟩ => ⟨S6x768x2304, .i32⟩
  | .hbm, ⟨17, _⟩ => ⟨S6x768x2304, .i32⟩
  | .hbm, ⟨18, _⟩ => ⟨S6x768x2304, .i32⟩
  | .hbm, ⟨19, _⟩ => ⟨S6x768x1x2304, .i32⟩
  | .hbm, ⟨20, _⟩ => ⟨S6x768x2304, .i32⟩
  | .hbm, ⟨21, _⟩ => ⟨S6x768x1x2304, .i32⟩
  | .hbm, ⟨22, _⟩ => ⟨S6x768x2304, .i32⟩
  | .hbm, ⟨23, _⟩ => ⟨S_, .i32⟩
  | .hbm, ⟨24, _⟩ => ⟨S6x768x2304, .i32⟩
  | .hbm, ⟨25, _⟩ => ⟨S6x768x2304, .i32⟩
  | .hbm, ⟨26, _⟩ => ⟨S6x768x2304, .i32⟩
  | .hbm, ⟨27, _⟩ => ⟨S6x768x2304x1, .i32⟩
  | .hbm, ⟨28, _⟩ => ⟨S6x768x2304x1, .i32⟩
  | .hbm, ⟨29, _⟩ => ⟨S6x768x2304x2, .i32⟩
  | .hbm, ⟨30, _⟩ => ⟨S6x2304x2x768, .i32⟩
  | .hbm, ⟨31, _⟩ => ⟨S6x4608x768, .i32⟩
  | .hbm, ⟨32, _⟩ => ⟨S6x4608x12, .f32⟩
  | .hbm, ⟨33, _⟩ => ⟨S6x4608x768, .i8⟩
  | _, _ => ⟨S6x1536x2304, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Proof.Nibbles.lean ====
/- The arithmetic of one byte and one word: which nibbles a repacked byte holds, and what the kernel's
   exchange of the two middle nibbles of each 16-bit half does to the bits of a 32-bit word. -/
module

public import Idealize.ShloMosaic.Lib.BitcastFour
public import Idealize.ShloMosaic.PureOps

@[expose] public section

namespace Cert.Repack

open Idealize.ShloMosaic

/-- Nibble `e` of a byte: the low one at `e = 0`, the high one otherwise. -/
def nibble (e : Nat) (x : BitVec 8) : BitVec 8 := if e = 0 then x &&& 15#8 else x >>> 4

/-- The byte that holds nibble `e` of `x` in its low half and nibble `e` of `y` in its high half. -/
def packByte (e : Nat) (x y : BitVec 8) : BitVec 8 := nibble e x ||| (nibble e y <<< 4)

/-- Bits of a nibble: the four bits from `4e` on, and zeros above them. -/
theorem nibble_getLsbD (e : Nat) (he : e < 2) (x : BitVec 8) (q : Nat) :
    (nibble e x).getLsbD q = (decide (q < 4) && x.getLsbD (4 * e + q)) := by
  have hc : e = 0 ∨ e = 1 := by omega
  rcases hc with rfl | rfl
  · by_cases h8 : q < 8
    · simp only [nibble, if_pos, BitVec.getLsbD_and]
      interval_cases q <;> simp
    · simp [nibble, BitVec.getLsbD_of_ge x q (by omega)]
  · by_cases h4 : q < 4
    · simp [nibble, h4]
    · simp [nibble, h4, BitVec.getLsbD_of_ge x (4 + q) (by omega)]

/-- Bits of a packed byte. -/
theorem packByte_getLsbD (e : Nat) (he : e < 2) (x y : BitVec 8) (q : Nat) (hq : q < 8) :
    (packByte e x y).getLsbD q = if q < 4 then x.getLsbD (4 * e + q) else y.getLsbD (4 * e + (q - 4)) := by
  unfold packByte
  rw [BitVec.getLsbD_or, BitVec.getLsbD_shiftLeft, nibble_getLsbD e he, nibble_getLsbD e he]
  by_cases h4 : q < 4
  · simp [h4]
  · simp [h4, hq, show q - 4 < 4 by omega]

/-- The kernel's word: the two middle nibbles of each 16-bit half exchanged. -/
def swapMiddle (x : BitVec 32) : BitVec 32 :=
  (x ^^^ ((x ^^^ x.sshiftRight 4) &&& 15728880#32)) ^^^ (((x ^^^ x.sshiftRight 4) &&& 15728880#32) <<< 4)

/-- Where bit `k` of the exchanged word comes from: in each half, bits 4 to 7 and bits 8 to 11 change places. -/
def srcBit (k : Nat) : Nat :=
  if k % 16 / 4 = 1 then k + 4 else if k % 16 / 4 = 2 then k - 4 else k

/-- Bit `k` of the exchanged word is bit `srcBit k` of the word. -/
theorem swapMiddle_getLsbD (x : BitVec 32) (k : Nat) (hk : k < 32) :
    (swapMiddle x).getLsbD k = x.getLsbD (srcBit k) := by
  unfold swapMiddle srcBit
  simp only [BitVec.getLsbD_xor, BitVec.getLsbD_and, BitVec.getLsbD_shiftLeft, BitVec.getLsbD_sshiftRight]
  have hx : ∀ a b : Bool, (a ^^ (b ^^ a)) = b := by decide
  interval_cases k <;> simp [hx]

end Cert.Repack
-- ==== Proof.Tile.lean ====
/- What one lane tile of the kernel's body computes: 128 byte columns of a `[1, 1536, 1152]` block, repacked to
   256 rows of the `[1, 2304, 768]` block. -/
module

public import proofs.«01_k».proof.Proof.Gen.KernelIdeal.Skeleton
public import proofs.«01_k».proof.Proof.Nibbles
public import Idealize.ShloMosaic.Lib.Pipeline.Value

@[expose] public section

noncomputable section

namespace Cert.Repack

open Cert.KernelIdeal Cert.KernelIdeal.Gen Idealize.ShloMosaic Idealize.ShloMosaic.ValueIdx

variable {F : FTy → Type} [FloatOps F]

/-- The kernel's word operations on one word are the exchange of the middle nibbles. -/
theorem swap_word (x : BitVec 32) :
    IntOp.xori (IntOp.xori x (IntOp.andi (IntOp.xori x (IntOp.shrsi .vector x 4#32)) 15728880#32))
      (IntOp.shli .vector (IntOp.andi (IntOp.xori x (IntOp.shrsi .vector x 4#32)) 15728880#32) 4#32) = swapMiddle x := rfl

/-- The tile: the body's operations on the 128 columns that it loads at a time. -/
def tile (v : Vec F S1x1536x128 .i8) : IVec S1x256x768 8 := k0_pay3 v

/-- A rank-2 reinterpretation at other widths, read at a bit: counted down a column, bit `q` of row `a` is bit
    `a * w + q` of the column, which lies in source row `p` at bit `b`. -/
theorem bitcast_bit {v w R r n : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v)
    (p : Fin R) (b : Nat) (hp : p.val = (a.val * w + q) / v) (hb : b = (a.val * w + q) % v) :
    (bitcast ⟨2, ![r, n]⟩ w x h (ix2 a l)).getLsbD q = (x (ix2 p l)).getLsbD b := by
  rw [bitcast_getLsbD x h _ q hq hv, hb]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Row `r`, byte `p` of the tile: nibble `r % 2` of the bytes at rows `2p` and `2p + 1` of column `r / 2`. -/
theorem tile_apply (v : Vec F S1x1536x128 .i8) (r : Fin 256) (p : Fin 768) :
    tile v (ix3 0 r p) = packByte (r.val % 2) (v (ix3 0 ⟨2 * p.val, by omega⟩ ⟨r.val / 2, by omega⟩))
      (v (ix3 0 ⟨2 * p.val + 1, by omega⟩ ⟨r.val / 2, by omega⟩)) := by
  apply BitVec.eq_of_getLsbD_eq
  intro q hq
  rw [packByte_getLsbD _ (by omega) _ _ q hq]
  unfold tile k0_pay3
  dsimp only
  have hr := r.isLt
  have hp := p.isLt
  have hk : p.val % 2 * 16 + (r.val % 2 * 8 + q) < 32 := by omega
  have hs : srcBit (p.val % 2 * 16 + (r.val % 2 * 8 + q)) < 32 := by unfold srcBit; split_ifs <;> omega
  rw [shapeCast_apply _ _ (ix3 0 r p) (ix2 r p) (by
    rw [Shape.rowMajor_val_two, Shape.rowMajor_val_three]; show r.val * 768 + p.val = (0 * 256 + r.val) * 768 + p.val; omega)]
  refine (bitcast_bit _ _ r p q hq (by decide) ⟨r.val / 4, by omega⟩ (r.val % 4 * 8 + q) (by show r.val / 4 = _; omega)
    (by omega)).trans ?_
  refine (bitcast_bit _ _ ⟨r.val / 4, by omega⟩ p _ (by omega) (by decide) ⟨r.val / 2, by omega⟩ (r.val % 2 * 8 + q)
    (by show r.val / 2 = (r.val / 4 * 32 + _) / 16; omega) (by show _ = (r.val / 4 * 32 + _) % 16; omega)).trans ?_
  rw [transpose_apply _ _ _ (ix2 (⟨r.val / 2, by omega⟩ : Fin 128) p) (ix2 p ⟨r.val / 2, by omega⟩)
    (fun b => match b with | ⟨0, _⟩ => rfl | ⟨1, _⟩ => rfl)]
  refine (bitcast_bit _ _ p ⟨r.val / 2, by omega⟩ _ (by omega) (by decide) ⟨p.val / 2, by omega⟩
    (p.val % 2 * 16 + (r.val % 2 * 8 + q)) (by show p.val / 2 = _; omega) (by omega)).trans ?_
  refine (congrArg (fun x : BitVec 32 => x.getLsbD _) (swap_word (bitcast S384x128 32 _ _ _))).trans ?_
  rw [swapMiddle_getLsbD _ _ hk]
  refine (bitcast_bit _ _ ⟨p.val / 2, by omega⟩ ⟨r.val / 2, by omega⟩ _ hs (by decide)
    ⟨p.val / 2 * 4 + srcBit (p.val % 2 * 16 + (r.val % 2 * 8 + q)) / 8, by omega⟩ _
    (by dsimp only; omega) rfl).trans ?_
  rw [shapeCast_apply _ _ (ix2 _ _) (ix3 0 (⟨p.val / 2 * 4 + srcBit (p.val % 2 * 16 + (r.val % 2 * 8 + q)) / 8, by omega⟩ : Fin 1536)
    (⟨r.val / 2, by omega⟩ : Fin 128)) (by
    rw [Shape.rowMajor_val_two, Shape.rowMajor_val_three]; show (0 * 1536 + _) * 128 + _ = _ * 128 + _; simp)]
  have hb : ∀ (i j : Fin 1536) (b c : Nat), i.val = j.val → b = c →
      (v (ix3 0 i ⟨r.val / 2, by omega⟩)).getLsbD b = (v (ix3 0 j ⟨r.val / 2, by omega⟩)).getLsbD c := by
    rintro i j b c hij rfl
    rw [Fin.ext hij]
  by_cases h4 : q < 4
  · rw [if_pos h4]
    apply hb
    · dsimp only
      unfold srcBit; split_ifs <;> omega
    · dsimp only
      unfold srcBit; split_ifs <;> omega
  · rw [if_neg h4]
    apply hb
    · dsimp only
      unfold srcBit; split_ifs <;> omega
    · dsimp only
      unfold srcBit; split_ifs <;> omega

end Cert.Repack
-- ==== Proof.Array.lean ====
/- What the kernel's two output arrays hold after its run, as functions of its two argument arrays: the packed
   weights repacked (`packedOf`), and the scales as they were. -/
module

public import proofs.«01_k».proof.Proof.Gen.KernelIdeal.Frame
public import proofs.«01_k».proof.Proof.Tile

@[expose] public section

noncomputable section

namespace Cert.Repack

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ) (ρ : Dev nD → PrngReg)

/-- The repacked array: byte `(b, n, p)` holds nibble `n % 2` of the bytes at rows `2p` and `2p + 1` of column `n / 2`
    of matrix `b`. -/
def packedOf (w : S6x1536x2304.Idx → BitVec 8) : S6x4608x768.Idx → BitVec 8 := fun i =>
  have h1 : (i 1).val < 4608 := (i 1).isLt
  have h2 : (i 2).val < 768 := (i 2).isLt
  packByte ((i 1).val % 2) (w (ix3 (i 0) ⟨2 * (i 2).val, by omega⟩ ⟨(i 1).val / 2, by omega⟩))
    (w (ix3 (i 0) ⟨2 * (i 2).val + 1, by omega⟩ ⟨(i 1).val / 2, by omega⟩))

/-- The same of one block. -/
def blockOf (x : Vec F S1x1536x1152 .i8) : Vec F S1x2304x768 .i8 := fun i =>
  have h1 : (i 1).val < 2304 := (i 1).isLt
  have h2 : (i 2).val < 768 := (i 2).isLt
  packByte ((i 1).val % 2) (x (ix3 0 ⟨2 * (i 2).val, by omega⟩ ⟨(i 1).val / 2, by omega⟩))
    (x (ix3 0 ⟨2 * (i 2).val + 1, by omega⟩ ⟨(i 1).val / 2, by omega⟩))

/-- The tile of the columns from `c` on is the rows from `d = 2c` on of the repacked block. -/
theorem tile_piece (x : Vec F S1x1536x1152 .i8) (c d : Nat) (hd : d = 2 * c)
    (hi : ∀ a, (![0, 0, c] : Fin 3 → Nat) a + S1x1536x128.size a ≤ S1x1536x1152.size a)
    (ho : ∀ a, (![0, d, 0] : Fin 3 → Nat) a + S1x256x768.size a ≤ S1x2304x768.size a) (y : S1x256x768.Idx) :
    tile (View.ld x (Rect.unit (s := S1x1536x1152) ![0, 0, c] S1x1536x128.size hi)) y
      = blockOf x ((Rect.unit (s := S1x2304x768) ![0, d, 0] S1x256x768.size ho).emb y) := by
  have h0 : (y 0).val < 1 := (y 0).isLt
  have h1 : (y 1).val < 256 := (y 1).isLt
  have h2 : (y 2).val < 768 := (y 2).isLt
  have hy : y = ix3 0 (y 1) (y 2) := by
    refine (eq_ix3 y).trans ?_
    rw [show y 0 = (0 : Fin 1) from Fin.ext (by show (y 0).val = 0; omega)]
    rfl
  refine (congrArg _ hy).trans ((tile_apply _ (y 1) (y 2)).trans ?_)
  unfold blockOf
  dsimp only
  have e1 : ((Rect.unit (s := S1x2304x768) ![0, d, 0] S1x256x768.size ho).emb y 1).val = d + (y 1).val := by
    show d + 1 * (y 1).val = _; omega
  have e2 : ((Rect.unit (s := S1x2304x768) ![0, d, 0] S1x256x768.size ho).emb y 2).val = (y 2).val := by
    show 0 + 1 * (y 2).val = _; omega
  congr 1
  · rw [e1]; omega
  · refine congrArg x (funext fun a => Fin.ext ?_)
    match a with
    | ⟨0, _⟩ => rfl
    | ⟨1, _⟩ => show 0 + 1 * (2 * (y 2).val) = 2 * _; rw [e2]; omega
    | ⟨2, _⟩ => show c + 1 * ((y 1).val / 2) = _ / 2; rw [e1]; omega
  · refine congrArg x (funext fun a => Fin.ext ?_)
    match a with
    | ⟨0, _⟩ => rfl
    | ⟨1, _⟩ => show 0 + 1 * (2 * (y 2).val + 1) = 2 * _ + 1; rw [e2]; omega
    | ⟨2, _⟩ => show c + 1 * ((y 1).val / 2) = _ / 2; rw [e1]; omega

/-! The nine stores' values are one function of their loads: the tile. -/

theorem pay4_eq (v : Vec F S1x1536x128 .i8) : k0_pay4 v = tile v := rfl
theorem pay5_eq (v : Vec F S1x1536x128 .i8) : k0_pay5 v = tile v := rfl
theorem pay6_eq (v : Vec F S1x1536x128 .i8) : k0_pay6 v = tile v := rfl
theorem pay7_eq (v : Vec F S1x1536x128 .i8) : k0_pay7 v = tile v := rfl
theorem pay8_eq (v : Vec F S1x1536x128 .i8) : k0_pay8 v = tile v := rfl
theorem pay9_eq (v : Vec F S1x1536x128 .i8) : k0_pay9 v = tile v := rfl
theorem pay10_eq (v : Vec F S1x1536x128 .i8) : k0_pay10 v = tile v := rfl
theorem pay3_eq (v : Vec F S1x1536x128 .i8) : k0_pay3 v = tile v := rfl
theorem pay1_eq (v : Vec F S1x1536x128 .i8) : k0_pay1 (k0_pay11 v) = tile v := rfl

/-- What the body leaves in the packed weights' block: the repacked input block. Its nine stores are the nine tiles. -/
theorem out0_2_eq (x0 : Vec F S1x1536x1152 .i8) (x1 : Vec F S1x12x2304 .f32) : out0_2 x0 x1 = blockOf x0 := by
  funext y
  unfold out0_2
  simp only [pay1_eq, pay3_eq, pay4_eq, pay5_eq, pay6_eq, pay7_eq, pay8_eq, pay9_eq, pay10_eq]
  refine View.canon_apply_of_pieces (blockOf x0) _ ?_ y (cover0_2 _ _ _ _ _ _ _ _ _ y)
  intro pc hpc
  simp only [List.mem_cons, List.not_mem_nil, or_false] at hpc
  rcases hpc with rfl | rfl | rfl | rfl | rfl | rfl | rfl | rfl | rfl
  · exact tile_piece x0 1024 2048 rfl inb_S1x1536x1152_S1x1536x128_0_0_1024 inb_S1x2304x768_S1x256x768_0_2048_0
  · exact tile_piece x0 896 1792 rfl inb_S1x1536x1152_S1x1536x128_0_0_896 inb_S1x2304x768_S1x256x768_0_1792_0
  · exact tile_piece x0 768 1536 rfl inb_S1x1536x1152_S1x1536x128_0_0_768 inb_S1x2304x768_S1x256x768_0_1536_0
  · exact tile_piece x0 640 1280 rfl inb_S1x1536x1152_S1x1536x128_0_0_640 inb_S1x2304x768_S1x256x768_0_1280_0
  · exact tile_piece x0 512 1024 rfl inb_S1x1536x1152_S1x1536x128_0_0_512 inb_S1x2304x768_S1x256x768_0_1024_0
  · exact tile_piece x0 384 768 rfl inb_S1x1536x1152_S1x1536x128_0_0_384 inb_S1x2304x768_S1x256x768_0_768_0
  · exact tile_piece x0 256 512 rfl inb_S1x1536x1152_S1x1536x128_0_0_256 inb_S1x2304x768_S1x256x768_0_512_0
  · exact tile_piece x0 128 256 rfl inb_S1x1536x1152_S1x1536x128_0_0_128 inb_S1x2304x768_S1x256x768_0_256_0
  · exact tile_piece x0 0 0 rfl inb_S1x1536x1152_S1x1536x128_0_0_0 inb_S1x2304x768_S1x256x768_0_0_0

theorem zeros3 : (![0, 0, 0] : Fin 3 → Nat) = fun _ => 0 := funext fun a => by fin_cases a <;> rfl

/-- What the body leaves in the scales' block: the input block. -/
theorem out0_3_eq (x0 : Vec F S1x1536x1152 .i8) (x1 : Vec F S1x12x2304 .f32) : out0_3 x0 x1 = x1 := by
  unfold out0_3 k0_pay2
  rw [View.canon_unit_zero zeros3, View.ld_unit_zero zeros3]
  exact shapeCast_shapeCast _ _ _

/-- The windows' block indices at each of the twelve grid points: the packed weights' input block `(b, 0, j)` goes with
    output block `(b, j, 0)`, and the scales' output block is the input block. -/
theorem idx_facts : ∀ t : Fin cfg0.N, win0_0.index t (0 : Fin 3) = win0_2.index t (0 : Fin 3)
    ∧ win0_0.index t (1 : Fin 3) = 0 ∧ win0_0.index t (2 : Fin 3) = win0_2.index t (1 : Fin 3)
    ∧ win0_2.index t (2 : Fin 3) = 0 ∧ win0_1.index t = win0_3.index t :=
  (by decide +kernel : ∀ t : Fin grid0.N, _)

/-- Every block of the packed weights' output is some grid point's. -/
theorem idx_onto2 : ∀ (b : Fin 6) (j : Fin 2), ∃ t : Fin cfg0.N, win0_2.index t = ![b.val, j.val, 0] :=
  (by decide +kernel : ∀ (b : Fin 6) (j : Fin 2), ∃ t : Fin grid0.N, _)

/-- Every block of the scales' output is some grid point's. -/
theorem idx_onto3 : ∀ (b : Fin 6) (j : Fin 2), ∃ t : Fin cfg0.N, win0_3.index t = ![b.val, 0, j.val] :=
  (by decide +kernel : ∀ (b : Fin 6) (j : Fin 2), ∃ t : Fin grid0.N, _)

/-- The repacked argument array of device `c`. -/
abbrev G2 (c : Dev nD) : Buf (Elt F) ((c : Thread nD τ).loc main_v0_0) := packedOf (m ((c : Thread nD τ).loc main_arg0))

/-- What grid point `t` writes back to the packed weights' array is block `t` of the repacked argument. -/
theorem flushed2_eq (c : Dev nD) (t : Fin cfg0.N) :
    (dats m 0 c).flushed 2 t = ((cfg0.win 2).blk t).view.read (Elt F) (G2 m c) := by
  show (cfg0.win 2).cut (grid0.coords t) ((dats m 0 c).after 2 t) = _
  rw [after0_2, out0_2_eq]
  obtain ⟨f0, f1, f2, f3, -⟩ := idx_facts t
  funext y
  have h0 : (y 0).val < 1 := (y 0).isLt
  have h1 : (y 1).val < 2304 := (y 1).isLt
  have h2 : (y 2).val < 768 := (y 2).isLt
  show blockOf (iblk m c 0 t) y = packedOf (m ((c : Thread nD τ).loc main_arg0)) ((win0_2.rect t).emb y)
  have e0 : ((win0_2.rect t).emb y 0).val = win0_2.index t (0 : Fin 3) * 1 + 1 * (y 0).val := rfl
  have e1 : ((win0_2.rect t).emb y 1).val = win0_2.index t (1 : Fin 3) * 2304 + 1 * (y 1).val := rfl
  have e2 : ((win0_2.rect t).emb y 2).val = win0_2.index t (2 : Fin 3) * 768 + 1 * (y 2).val := rfl
  unfold blockOf packedOf iblk
  dsimp only
  congr 1
  · rw [e1]; omega
  · refine congrArg (m ((c : Thread nD τ).loc main_arg0)) (funext fun a => Fin.ext ?_)
    match a with
    | ⟨0, _⟩ => show win0_0.index t (0 : Fin 3) * 1 + 1 * 0 = _; rw [e0, f0]; omega
    | ⟨1, _⟩ => show win0_0.index t (1 : Fin 3) * 1536 + 1 * (2 * (y 2).val) = 2 * _; rw [e2, f1, f3]; omega
    | ⟨2, _⟩ => show win0_0.index t (2 : Fin 3) * 1152 + 1 * ((y 1).val / 2) = _ / 2; rw [e1, f2]; omega
  · refine congrArg (m ((c : Thread nD τ).loc main_arg0)) (funext fun a => Fin.ext ?_)
    match a with
    | ⟨0, _⟩ => show win0_0.index t (0 : Fin 3) * 1 + 1 * 0 = _; rw [e0, f0]; omega
    | ⟨1, _⟩ => show win0_0.index t (1 : Fin 3) * 1536 + 1 * (2 * (y 2).val + 1) = 2 * _ + 1; rw [e2, f1, f3]; omega
    | ⟨2, _⟩ => show win0_0.index t (2 : Fin 3) * 1152 + 1 * ((y 1).val / 2) = _ / 2; rw [e1, f2]; omega

/-- What grid point `t` writes back to the scales' array is block `t` of the scales. -/
theorem flushed3_eq (c : Dev nD) (t : Fin cfg0.N) :
    (dats m 0 c).flushed 3 t = ((cfg0.win 3).blk t).view.read (Elt F) (m ((c : Thread nD τ).loc main_arg1)) := by
  show (cfg0.win 3).cut (grid0.coords t) ((dats m 0 c).after 3 t) = _
  rw [after0_3, out0_3_eq]
  obtain ⟨-, -, -, -, f⟩ := idx_facts t
  funext y
  show m ((c : Thread nD τ).loc main_arg1) ((win0_1.rect t).emb y) = m ((c : Thread nD τ).loc main_arg1) ((win0_3.rect t).emb y)
  refine congrArg (m ((c : Thread nD τ).loc main_arg1)) (funext fun a => Fin.ext ?_)
  show win0_1.index t a * _ + 1 * (y a).val = win0_3.index t a * _ + 1 * (y a).val
  rw [f]

/-- The blocks written back fill the packed weights' array. -/
theorem cover2 (i : S6x4608x768.Idx) : ∃ t : Fin cfg0.N, (cfg0.win 2).flush t = true ∧ i ∈ ((cfg0.win 2).blk t).view.set := by
  have h0 : (i 0).val < 6 := (i 0).isLt
  have h1 : (i 1).val < 4608 := (i 1).isLt
  have h2 : (i 2).val < 768 := (i 2).isLt
  obtain ⟨t, ht⟩ := idx_onto2 ⟨(i 0).val, h0⟩ ⟨(i 1).val / 2304, by omega⟩
  refine ⟨t, flush0_2 t, ?_⟩
  show i ∈ ((View.whole main_v0_0).slice (win0_2.rect t)).set
  rw [View.set_slice_whole, Rect.mem_set_unit]
  intro a
  show win0_2.index t a * _ ≤ (i a).val ∧ (i a).val < win0_2.index t a * _ + _
  rw [ht]
  match a with
  | ⟨0, _⟩ => show (i 0).val * 1 ≤ (i 0).val ∧ (i 0).val < (i 0).val * 1 + 1; omega
  | ⟨1, _⟩ => show (i 1).val / 2304 * 2304 ≤ (i 1).val ∧ (i 1).val < (i 1).val / 2304 * 2304 + 2304; omega
  | ⟨2, _⟩ => show 0 * 768 ≤ (i 2).val ∧ (i 2).val < 0 * 768 + 768; omega

/-- The blocks written back fill the scales' array. -/
theorem cover3 (i : S6x12x4608.Idx) : ∃ t : Fin cfg0.N, (cfg0.win 3).flush t = true ∧ i ∈ ((cfg0.win 3).blk t).view.set := by
  have h0 : (i 0).val < 6 := (i 0).isLt
  have h1 : (i 1).val < 12 := (i 1).isLt
  have h2 : (i 2).val < 4608 := (i 2).isLt
  obtain ⟨t, ht⟩ := idx_onto3 ⟨(i 0).val, h0⟩ ⟨(i 2).val / 2304, by omega⟩
  refine ⟨t, flush0_3 t, ?_⟩
  show i ∈ ((View.whole main_v0_1).slice (win0_3.rect t)).set
  rw [View.set_slice_whole, Rect.mem_set_unit]
  intro a
  show win0_3.index t a * _ ≤ (i a).val ∧ (i a).val < win0_3.index t a * _ + _
  rw [ht]
  match a with
  | ⟨0, _⟩ => show (i 0).val * 1 ≤ (i 0).val ∧ (i 0).val < (i 0).val * 1 + 1; omega
  | ⟨1, _⟩ => show 0 * 12 ≤ (i 1).val ∧ (i 1).val < 0 * 12 + 12; omega
  | ⟨2, _⟩ => show (i 2).val / 2304 * 2304 ≤ (i 2).val ∧ (i 2).val < (i 2).val / 2304 * 2304 + 2304; omega

/-- The packed weights' array after the grid: the repacked argument. -/
theorem final2 (c : Dev nD) : (dats m 0 c).arrAt 2 cfg0.N = G2 m c :=
  (dats m 0 c).arrAt_eq_of_cover 2 (G2 m c) (fun t _ => flushed2_eq m c t) cover2

/-- The scales' array after the grid: the argument. -/
theorem final3 (c : Dev nD) : (dats m 0 c).arrAt 3 cfg0.N = m ((c : Thread nD τ).loc main_arg1) :=
  (dats m 0 c).arrAt_eq_of_cover 3 (m ((c : Thread nD τ).loc main_arg1)) (fun t _ => flushed3_eq m c t) cover3

/-- The kernel's run: the packed weights repacked, the scales transposed, the arguments unchanged. -/
theorem run : θ_run defs (onTc (τ := τ) (main (F := F))) ⟨m, fun _ => 0, ρ⟩ fun r => ∀ c : Dev nD,
      r.2.mem ((c : Thread nD τ).loc main_v0_0) = packedOf (m ((c : Thread nD τ).loc main_arg0))
      ∧ r.2.mem ((c : Thread nD τ).loc main_v1)
        = transpose S6x4608x12 [0, 2, 1] (m ((c : Thread nD τ).loc main_arg1)) transposes_S6x12x4608_S6x4608x12_0_2_1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), by
      refine ((h c).2 main_v1 (by decide)).trans ?_
      refine Eq.trans ?_ (congrArg (fun x => transpose S6x4608x12 [0, 2, 1] x transposes_S6x12x4608_S6x4608x12_0_2_1)
        ((Pipeline.withArrays_arr spec0 launch0.win.arr_inj c (V0 m c) (fun w => (dats m 0 c).arrAt w cfg0.N) 3).trans
          (final3 m c)))
      unfold Pipeline.afterTail₀
      after_results_simp <;> rfl,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Repack
-- ==== Proof.Reference.lean ====
/- What the reference computes: its packed weights are the same function of the argument as the kernel's
   (`packedOf`), read element by element through its reshapes, slices, stack and transpose. -/
module

public import proofs.«01_k».proof.Proof.Array
public import proofs.«01_k».proof.Proof.Gen.ReferenceIdeal.Run

@[expose] public section

noncomputable section

namespace Cert.Repack

open Cert.ReferenceIdeal Cert.ReferenceIdeal.Gen Idealize.ShloMosaic Idealize.ShloMosaic.TcCoe Idealize.ShloMosaic.ValueIdx
open Idealize.SL.Sem

/-- The low nibbles of two bytes, packed in 32-bit words and narrowed to a byte. -/
theorem word_low (x y : BitVec 8) :
    ((x.setWidth 32 &&& 15#32) ||| ((y.setWidth 32 &&& 15#32) <<< 4)).setWidth 8 = packByte 0 x y := by
  refine BitVec.eq_of_getLsbD_eq fun q hq => ?_
  rw [packByte_getLsbD 0 (by decide) x y q hq]
  interval_cases q <;> simp

/-- The high nibbles of two bytes, packed in 32-bit words and narrowed to a byte. -/
theorem word_high (x y : BitVec 8) :
    ((x.setWidth 32 >>> 4) ||| ((y.setWidth 32 >>> 4) <<< 4)).setWidth 8 = packByte 1 x y := by
  refine BitVec.eq_of_getLsbD_eq fun q hq => ?_
  rw [packByte_getLsbD 1 (by decide) x y q hq]
  interval_cases q <;> simp

/-- Rows `2p` and `2p + 1` of an array of words joined, the second shifted up by four bits: the reference's packing of a
    nibble array. -/
def joined (z : IVec S6x1536x2304 32) : IVec S6x768x2304 32 :=
  ori
    (shapeCast _ (extractStridedSlice S6x768x1x2304 ![0, 0, 0, 0]
      (shapeCast _ z shapeCasts_S6x1536x2304_S6x768x2x2304) slices_S6x768x2x2304_S6x768x1x2304_0_0_0_0)
      shapeCasts_S6x768x1x2304_S6x768x2304)
    (Host.shli
      (shapeCast _ (extractStridedSlice S6x768x1x2304 ![0, 0, 1, 0]
        (shapeCast _ z shapeCasts_S6x1536x2304_S6x768x2x2304) slices_S6x768x2x2304_S6x768x1x2304_0_0_1_0)
        shapeCasts_S6x768x1x2304_S6x768x2304)
      (broadcastInDim S6x768x2304 ![] bcast_S_S6x768x2304 (constantI S_ 32 4#32)))

/-- Row `o` of each pair of rows, through the reference's reshape, slice and reshape. -/
theorem row_apply (z : IVec S6x1536x2304 32) (o : Nat) (ho : o < 2)
    (hs : S6x768x2x2304.Slices ![0, 0, o, 0] S6x768x1x2304) (b : Fin 6) (p : Fin 768) (j : Fin 2304) :
    shapeCast S6x768x2304 (extractStridedSlice S6x768x1x2304 ![0, 0, o, 0]
      (shapeCast _ z shapeCasts_S6x1536x2304_S6x768x2x2304) hs) shapeCasts_S6x768x1x2304_S6x768x2304 (ix3 b p j)
      = z (ix3 b ⟨2 * p.val + o, by omega⟩ j) := by
  refine (shapeCast_apply _ _ (ix3 b p j) (ix4 b p 0 j : S6x768x1x2304.Idx) ?_).trans ?_
  · rw [Shape.rowMajor_val_four, Shape.rowMajor_val_three]
    show ((b.val * 768 + p.val) * 1 + 0) * 2304 + j.val = (b.val * 768 + p.val) * 2304 + j.val
    omega
  refine (extractStridedSlice_apply _ _ hs _ (ix4 b p ⟨o, ho⟩ j : S6x768x2x2304.Idx) ?_).trans ?_
  · intro a
    match a with
    | ⟨0, _⟩ => show b.val = 0 + b.val; omega
    | ⟨1, _⟩ => show p.val = 0 + p.val; omega
    | ⟨2, _⟩ => show o = o + 0; omega
    | ⟨3, _⟩ => show j.val = 0 + j.val; omega
  refine shapeCast_apply _ _ _ _ ?_
  rw [Shape.rowMajor_val_four, Shape.rowMajor_val_three]
  show (b.val * 1536 + (2 * p.val + o)) * 2304 + j.val = ((b.val * 768 + p.val) * 2 + o) * 2304 + j.val
  omega

theorem joined_apply (z : IVec S6x1536x2304 32) (b : Fin 6) (p : Fin 768) (j : Fin 2304) :
    joined z (ix3 b p j) = z (ix3 b ⟨2 * p.val, by omega⟩ j) ||| (z (ix3 b ⟨2 * p.val + 1, by omega⟩ j) <<< 4) := by
  show _ ||| IntOp.shli .host _ 4#32 = _
  rw [row_apply z 0 (by decide), row_apply z 1 (by decide), shli_host]
  simp [IntOp.shli, IntOp.cornerWord]

/-- The reference's packed weights as a function of the two joined nibble arrays. -/
def stacked (u v : IVec S6x768x2304 32) : IVec S6x4608x768 8 :=
  trunci 8 (shapeCast _ (transpose S6x2304x2x768 [0, 2, 3, 1]
    (concatenate S6x768x2304x2 3
      [⟨S6x768x2304x1, (broadcastInDim S6x768x2304x1 ![0, 1, 2] bcast_S6x768x2304_S6x768x2304x1_0_1_2 u)⟩,
        ⟨S6x768x2304x1, (broadcastInDim S6x768x2304x1 ![0, 1, 2] bcast_S6x768x2304_S6x768x2304x1_0_1_2 v)⟩]
      concatenates_S6x768x2304x1_S6x768x2304x1_S6x768x2304x2_d3) transposes_S6x768x2304x2_S6x2304x2x768_0_2_3_1)
    shapeCasts_S6x2304x2x768_S6x4608x768) natLt_8_32

/-- Element `(b, n, p)` comes from the array numbered `n % 2` at `(b, p, n / 2)`. -/
theorem stacked_apply (u v : IVec S6x768x2304 32) (b : Fin 6) (n : Fin 4608) (p : Fin 768) :
    stacked u v (ix3 b n p)
      = ((if n.val % 2 = 0 then u else v) (ix3 b p ⟨n.val / 2, by omega⟩)).setWidth 8 := by
  unfold stacked trunci
  refine congrArg (BitVec.setWidth 8) ?_
  have hn : n.val % 2 < 2 := by omega
  refine (shapeCast_apply _ _ (ix3 b n p) (ix4 b ⟨n.val / 2, by omega⟩ ⟨n.val % 2, hn⟩ p : S6x2304x2x768.Idx) ?_).trans ?_
  · rw [Shape.rowMajor_val_four, Shape.rowMajor_val_three]
    show ((b.val * 2304 + n.val / 2) * 2 + n.val % 2) * 768 + p.val = (b.val * 4608 + n.val) * 768 + p.val
    omega
  refine (transpose_apply _ _ _ _ (ix4 b p ⟨n.val / 2, by omega⟩ ⟨n.val % 2, hn⟩ : S6x768x2304x2.Idx)
    (fun a => match a with | ⟨0, _⟩ => rfl | ⟨1, _⟩ => rfl | ⟨2, _⟩ => rfl | ⟨3, _⟩ => rfl)).trans ?_
  have hb (w : IVec S6x768x2304 32) : broadcastInDim S6x768x2304x1 ![0, 1, 2] bcast_S6x768x2304_S6x768x2304x1_0_1_2 w
      (ix4 b p ⟨n.val / 2, by omega⟩ 0) = w (ix3 b p ⟨n.val / 2, by omega⟩) :=
    broadcastInDim_apply _ _ _ _ _ (fun a => match a with | ⟨0, _⟩ => rfl | ⟨1, _⟩ => rfl | ⟨2, _⟩ => rfl)
  by_cases h0 : n.val % 2 = 0
  · rw [if_pos h0]
    refine (concatenate_pair_apply_left (t := S6x768x2304x2) (s₁ := S6x768x2304x1) (s₂ := S6x768x2304x1) 3 _ _ _ _ rfl (ix4 b p ⟨n.val / 2, by omega⟩ 0 : S6x768x2304x1.Idx) ?_).trans (hb u)
    exact fun a => match a with | ⟨0, _⟩ => rfl | ⟨1, _⟩ => rfl | ⟨2, _⟩ => rfl | ⟨3, _⟩ => h0.symm
  · rw [if_neg h0]
    have h1 : n.val % 2 = 1 := by omega
    refine (concatenate_pair_apply_right (t := S6x768x2304x2) (s₁ := S6x768x2304x1) (s₂ := S6x768x2304x1) 3 _ _ _ _ rfl rfl (ix4 b p ⟨n.val / 2, by omega⟩ 0 : S6x768x2304x1.Idx) ?_ ?_).trans (hb v)
    · exact fun a ha => match a, ha with
        | ⟨0, _⟩, _ => rfl | ⟨1, _⟩, _ => rfl | ⟨2, _⟩, _ => rfl | ⟨3, _⟩, ha => absurd rfl ha
    · exact h1.symm

/-- The reference's packed weights: the repacked argument. -/
theorem stacked_eq (w : IVec S6x1536x2304 8) :
    stacked (joined (andi (extui 32 w natLt_8_32) (broadcastInDim S6x1536x2304 ![] bcast_S_S6x1536x2304 (constantI S_ 32 15#32))))
        (joined (Host.shrui (extui 32 w natLt_8_32) (broadcastInDim S6x1536x2304 ![] bcast_S_S6x1536x2304 (constantI S_ 32 4#32))))
      = packedOf w := by
  have hlo (i : S6x1536x2304.Idx) : (andi (extui 32 w natLt_8_32) (broadcastInDim S6x1536x2304 ![] bcast_S_S6x1536x2304
      (constantI S_ 32 15#32))) i = (w i).setWidth 32 &&& 15#32 := rfl
  have hhi (i : S6x1536x2304.Idx) : (Host.shrui (extui 32 w natLt_8_32) (broadcastInDim S6x1536x2304 ![] bcast_S_S6x1536x2304
      (constantI S_ 32 4#32))) i = (w i).setWidth 32 >>> 4 := by
    show IntOp.shrui .host ((w i).setWidth 32) 4#32 = _
    rw [shrui_host]
    simp [IntOp.shrui, IntOp.cornerWord]
  have key (b : Fin 6) (n : Fin 4608) (p : Fin 768) :
      stacked (joined (andi (extui 32 w natLt_8_32) (broadcastInDim S6x1536x2304 ![] bcast_S_S6x1536x2304 (constantI S_ 32 15#32))))
        (joined (Host.shrui (extui 32 w natLt_8_32) (broadcastInDim S6x1536x2304 ![] bcast_S_S6x1536x2304 (constantI S_ 32 4#32))))
        (ix3 b n p)
      = packByte (n.val % 2) (w (ix3 b ⟨2 * p.val, by omega⟩ ⟨n.val / 2, by omega⟩))
          (w (ix3 b ⟨2 * p.val + 1, by omega⟩ ⟨n.val / 2, by omega⟩)) := by
    rw [stacked_apply]
    by_cases h0 : n.val % 2 = 0
    · rw [if_pos h0, joined_apply, hlo, hlo, word_low, h0]
    · rw [if_neg h0, joined_apply, hhi, hhi, word_high, show n.val % 2 = 1 by omega]
  funext i
  exact (congrArg _ (eq_ix3 i)).trans (key (i 0) (i 1) (i 2))

end Cert.Repack
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Nibbles
public import proofs.«01_k».proof.Proof.Tile
public import proofs.«01_k».proof.Proof.Array
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The idealized kernel and the reference: equal results, arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.Repack.packedOf (m ((c.tc : Thread Cert.KernelIdeal.nD Cert.KernelIdeal.τ).loc Cert.KernelIdeal.main_arg0)),
    fun c => transpose Cert.KernelIdeal.S6x4608x12 [0, 2, 1]
      (m ((c.tc : Thread Cert.KernelIdeal.nD Cert.KernelIdeal.τ).loc Cert.KernelIdeal.main_arg1))
      Cert.KernelIdeal.Gen.transposes_S6x12x4608_S6x4608x12_0_2_1,
    Cert.Repack.run m g, ?_⟩
  refine (θ_run _ _ _).mono (fun r h c => ⟨(h c).1.trans ?_, (h c).2.1.trans ?_, (h c).2.2.1, (h c).2.2.2⟩)
    (Cert.ReferenceIdeal.Value.run m' g')
  · refine (Cert.Repack.stacked_eq _).trans ?_
    rw [(hagree c).1]
  · rw [(hagree c).2]

/-- The reference's frame: it is host operations alone and has no semaphore. -/
theorem frame_reference : Cert.quiescent_ReferenceIdeal (hReferenceIdeal := Cert.ReferenceIdeal.Gen.facts) := by
  intro m g _
  exact (θ_run _ _ _).mono (fun r h => ⟨fun c => ⟨(h c).2.2.1, (h c).2.2.2⟩, sem_eq_zero_of_no_sems (by decide) r.2⟩)
    (Cert.ReferenceIdeal.Value.run m g)

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference,
  trivial, algebraic⟩

end Cert.Proof

end
